-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32768x1280 : Shape := ⟨3, ![4, 32768, 1280]⟩
abbrev S4x1024x40 : Shape := ⟨3, ![4, 1024, 40]⟩
abbrev S4x32768x2816 : Shape := ⟨3, ![4, 32768, 2816]⟩
abbrev S4x1024x88 : Shape := ⟨3, ![4, 1024, 88]⟩
abbrev S131072x1280 : Shape := ⟨2, ![131072, 1280]⟩
abbrev S131072x2816 : Shape := ⟨2, ![131072, 2816]⟩
abbrev S4096x40 : Shape := ⟨2, ![4096, 40]⟩
abbrev S4096x88 : Shape := ⟨2, ![4096, 88]⟩
abbrev S1280x2816 : Shape := ⟨2, ![1280, 2816]⟩
abbrev S1024x1280 : Shape := ⟨2, ![1024, 1280]⟩
abbrev S32x40 : Shape := ⟨2, ![32, 40]⟩
abbrev S1024x2816 : Shape := ⟨2, ![1024, 2816]⟩
abbrev S32x88 : Shape := ⟨2, ![32, 88]⟩
abbrev S32x128 : Shape := ⟨2, ![32, 128]⟩
abbrev S32x128x1 : Shape := ⟨3, ![32, 128, 1]⟩
abbrev S1x128 : Shape := ⟨2, ![1, 128]⟩

abbrev nBuf : Space → Nat
  | .hbm => 9
  | .vmem => 13
  | .smem => 0
  | _ => 0

abbrev bufTy : (tb : Table) → Fin (tcTables nBuf tb) → BufTy
  | .hbm, ⟨0, _⟩ => ⟨S4x32768x1280, .i8⟩
  | .hbm, ⟨1, _⟩ => ⟨S4x1024x40, .f32⟩
  | .hbm, ⟨2, _⟩ => ⟨S4x32768x2816, .i8⟩
  | .hbm, ⟨3, _⟩ => ⟨S4x1024x88, .f32⟩
  | .hbm, ⟨4, _⟩ => ⟨S131072x1280, .i8⟩
  | .hbm, ⟨5, _⟩ => ⟨S131072x2816, .i8⟩
  | .hbm, ⟨6, _⟩ => ⟨S4096x40, .f32⟩
  | .hbm, ⟨7, _⟩ => ⟨S4096x88, .f32⟩
  | .hbm, ⟨8, _⟩ => ⟨S1280x2816, .f32⟩
  | .local _ .vmem, ⟨0, _⟩ => ⟨S1024x1280, .i8⟩
  | .local _ .vmem, ⟨1, _⟩ => ⟨S1024x1280, .i8⟩
  | .local _ .vmem, ⟨2, _⟩ => ⟨S32x40, .f32⟩
  | .local _ .vmem, ⟨3, _⟩ => ⟨S32x40, .f32⟩
  | .local _ .vmem, ⟨4, _⟩ => ⟨S1024x2816, .i8⟩
  | .local _ .vmem, ⟨5, _⟩ => ⟨S1024x2816, .i8⟩
  | .local _ .vmem, ⟨6, _⟩ => ⟨S32x88, .f32⟩
  | .local _ .vmem, ⟨7, _⟩ => ⟨S32x88, .f32⟩
  | .local _ .vmem, ⟨8, _⟩ => ⟨S1280x2816, .f32⟩
  | .local _ .vmem, ⟨9, _⟩ => ⟨S1024x1280, .bf16⟩
  | .local _ .vmem, ⟨10, _⟩ => ⟨S1024x2816, .bf16⟩
  | .local _ .vmem, ⟨11, _⟩ => ⟨S32x128, .f32⟩
  | .local _ .vmem, ⟨12, _⟩ => ⟨S32x128, .f32⟩
  | _, _ => ⟨S4x32768x1280, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1280 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2816 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x88 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1280x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4x32768x1280 : Shape := ⟨3, ![4, 32768, 1280]⟩
abbrev S4x1024x40 : Shape := ⟨3, ![4, 1024, 40]⟩
abbrev S4x32768x2816 : Shape := ⟨3, ![4, 32768, 2816]⟩
abbrev S4x1024x88 : Shape := ⟨3, ![4, 1024, 88]⟩
abbrev S4x1024x32x40x32 : Shape := ⟨5, ![4, 1024, 32, 40, 32]⟩
abbrev S4x1024x1x40x1 : Shape := ⟨5, ![4, 1024, 1, 40, 1]⟩
abbrev S4x1024x32x88x32 : Shape := ⟨5, ![4, 1024, 32, 88, 32]⟩
abbrev S4x1024x1x88x1 : Shape := ⟨5, ![4, 1024, 1, 88, 1]⟩
abbrev S1280x2816 : Shape := ⟨2, ![1280, 2816]⟩

abbrev nBuf : Space → Nat
  | .hbm => 19
  | .vmem => 4
  | .smem => 0
  | _ => 0

abbrev bufTy : (tb : Table) → Fin (tcTables nBuf tb) → BufTy
  | .hbm, ⟨0, _⟩ => ⟨S4x32768x1280, .i8⟩
  | .hbm, ⟨1, _⟩ => ⟨S4x1024x40, .f32⟩
  | .hbm, ⟨2, _⟩ => ⟨S4x32768x2816, .i8⟩
  | .hbm, ⟨3, _⟩ => ⟨S4x1024x88, .f32⟩
  | .hbm, ⟨4, _⟩ => ⟨S4x32768x1280, .bf16⟩
  | .hbm, ⟨5, _⟩ => ⟨S4x32768x2816, .bf16⟩
  | .hbm, ⟨6, _⟩ => ⟨S4x1024x32x40x32, .bf16⟩
  | .hbm, ⟨7, _⟩ => ⟨S4x1024x40, .bf16⟩
  | .hbm, ⟨8, _⟩ => ⟨S4x1024x1x40x1, .bf16⟩
  | .hbm, ⟨9, _⟩ => ⟨S4x1024x32x40x32, .bf16⟩
  | .hbm, ⟨10, _⟩ => ⟨S4x1024x32x40x32, .bf16⟩
  | .hbm, ⟨11, _⟩ => ⟨S4x32768x1280, .bf16⟩
  | .hbm, ⟨12, _⟩ => ⟨S4x1024x32x88x32, .bf16⟩
  | .hbm, ⟨13, _⟩ => ⟨S4x1024x88, .bf16⟩
  | .hbm, ⟨14, _⟩ => ⟨S4x1024x1x88x1, .bf16⟩
  | .hbm, ⟨15, _⟩ => ⟨S4x1024x32x88x32, .bf16⟩
  | .hbm, ⟨16, _⟩ => ⟨S4x1024x32x88x32, .bf16⟩
  | .hbm, ⟨17, _⟩ => ⟨S4x32768x2816, .bf16⟩
  | .hbm, ⟨18, _⟩ => ⟨S1280x2816, .f32⟩
  | .local _ .vmem, ⟨0, _⟩ => ⟨S4x32768x1280, .i8⟩
  | .local _ .vmem, ⟨1, _⟩ => ⟨S4x32768x2816, .i8⟩
  | .local _ .vmem, ⟨2, _⟩ => ⟨S4x32768x1280, .bf16⟩
  | .local _ .vmem, ⟨3, _⟩ => ⟨S4x32768x2816, .bf16⟩
  | _, _ => ⟨S4x32768x1280, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x32768x1280 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x32768x2816 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32768x1280 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32768x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.RefValue.lean ====
/- The value of the reference: what the plain program leaves in its result, as a function of its four arguments. -/
module

public import proofs.«01_k».proof.Proof.Gen.ReferenceIdeal.Frame
public import Idealize.ShloMosaic.Lib.Pipeline.Value
public import Idealize.ShloMosaic.Lib.StableHlo.Run
public import Idealize.ShloMosaic.Lib.Tactic

@[expose] public section

noncomputable section

namespace Cert.ReferenceIdeal.RefValue

open Idealize.ShloMosaic Idealize.ShloMosaic.TcCoe Idealize.SL.Sem
open Idealize.ShloMosaic.Pipeline (Dat)
open Cert.ReferenceIdeal Cert.ReferenceIdeal.Gen

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

/-- The first window's block is the whole array of codes. -/
theorem iblk0 (c : Dev nD) (t : Fin cfg0.N) : iblk m c 0 t = m ((c : Thread nD τ).loc main_arg0) := by
  unfold iblk
  exact Memref.read_access_unit_zero (Elt F) main_arg0 (funext fun _ => Nat.zero_mul _) _ _

/-- The second window's block is the whole array of codes. -/
theorem iblk1 (c : Dev nD) (t : Fin cfg0.N) : iblk m c 1 t = m ((c : Thread nD τ).loc main_arg2) := by
  unfold iblk
  exact Memref.read_access_unit_zero (Elt F) main_arg2 (funext fun _ => Nat.zero_mul _) _ _

/-- The codes of `x` as numbers. -/
abbrev codesX (c : Dev nD) : FVec F S4x32768x1280 .bf16 := sitofp .bf16 (m ((c : Thread nD τ).loc main_arg0))
/-- The codes of `dy` as numbers. -/
abbrev codesY (c : Dev nD) : FVec F S4x32768x2816 .bf16 := sitofp .bf16 (m ((c : Thread nD τ).loc main_arg2))

theorem out2_eq (c : Dev nD) (t : Fin cfg0.N) : out0_2 (iblk m c 0 t) (iblk m c 1 t) = codesX m c := by
  unfold out0_2
  rw [View.canon_unit_zero hz]
  unfold k0_pay1
  rw [View.ld_unit_zero (S := S4x32768x1280) hz, iblk0]

theorem out3_eq (c : Dev nD) (t : Fin cfg0.N) : out0_3 (iblk m c 0 t) (iblk m c 1 t) = codesY m c := by
  unfold out0_3
  rw [View.canon_unit_zero hz]
  unfold k0_pay2
  rw [View.ld_unit_zero (S := S4x32768x2816) hz, iblk1]

/-- The region's one point. -/
abbrev t0 : Fin cfg0.N := ⟨0, by decide⟩

/-- The first array of numbers after the region. -/
theorem arr2 (c : Dev nD) : (dats m 0 c).arrAt 2 cfg0.N = codesX m c :=
  (dats m 0 c).arrAt_eq_of_cover 2 (codesX m c) (fun t hf => by
    show (cfg0.win 2).cut (grid0.coords t) ((dats m 0 c).after 2 t) = _
    rw [after0_2, out2_eq]
    exact (Memref.read_access_unit_zero (Elt F) main_v0_0 (funext fun _ => Nat.zero_mul _) _ (codesX m c)).symm) fun i =>
    ⟨t0, flush0_2 _, by
      show (i : S4x32768x1280.Idx) ∈ ((View.whole main_v0_0).slice (win0_2.rect t0)).set
      rw [View.set_slice_whole, Rect.mem_set_unit]
      intro a
      refine ⟨(Nat.zero_mul _).le.trans (Nat.zero_le _), lt_of_lt_of_eq (i a).isLt ?_⟩
      show _ = 0 * _ + _
      rw [Nat.zero_mul, Nat.zero_add]⟩

/-- The second array of numbers after the region. -/
theorem arr3 (c : Dev nD) : (dats m 0 c).arrAt 3 cfg0.N = codesY m c :=
  (dats m 0 c).arrAt_eq_of_cover 3 (codesY m c) (fun t hf => by
    show (cfg0.win 3).cut (grid0.coords t) ((dats m 0 c).after 3 t) = _
    rw [after0_3, out3_eq]
    exact (Memref.read_access_unit_zero (Elt F) main_v0_1 (funext fun _ => Nat.zero_mul _) _ (codesY m c)).symm) fun i =>
    ⟨t0, flush0_3 _, by
      show (i : S4x32768x2816.Idx) ∈ ((View.whole main_v0_1).slice (win0_3.rect t0)).set
      rw [View.set_slice_whole, Rect.mem_set_unit]
      intro a
      refine ⟨(Nat.zero_mul _).le.trans (Nat.zero_le _), lt_of_lt_of_eq (i a).isLt ?_⟩
      show _ = 0 * _ + _
      rw [Nat.zero_mul, Nat.zero_add]⟩

/-- One operand of the product: the codes `C` (as numbers) times the scale of their 32 × 32 block. -/
abbrev deqX (C : FVec F S4x32768x1280 .bf16) (s : FVec F S4x1024x40 .f32) : FVec F S4x32768x1280 .bf16 :=
  shapeCast S4x32768x1280 (mulf (shapeCast S4x1024x32x40x32 C shapeCasts_S4x32768x1280_S4x1024x32x40x32)
    (broadcastInDim S4x1024x32x40x32 ![0, 1, 2, 3, 4] bcast_S4x1024x1x40x1_S4x1024x32x40x32_0_1_2_3_4
      (broadcastInDim S4x1024x1x40x1 ![0, 1, 3] bcast_S4x1024x40_S4x1024x1x40x1_0_1_3 (truncf .bf16 s bitsLt_bf16_f32)))) shapeCasts_S4x1024x32x40x32_S4x32768x1280

/-- The other operand, likewise. -/
abbrev deqY (C : FVec F S4x32768x2816 .bf16) (s : FVec F S4x1024x88 .f32) : FVec F S4x32768x2816 .bf16 :=
  shapeCast S4x32768x2816 (mulf (shapeCast S4x1024x32x88x32 C shapeCasts_S4x32768x2816_S4x1024x32x88x32)
    (broadcastInDim S4x1024x32x88x32 ![0, 1, 2, 3, 4] bcast_S4x1024x1x88x1_S4x1024x32x88x32_0_1_2_3_4
      (broadcastInDim S4x1024x1x88x1 ![0, 1, 3] bcast_S4x1024x88_S4x1024x1x88x1_0_1_3 (truncf .bf16 s bitsLt_bf16_f32)))) shapeCasts_S4x1024x32x88x32_S4x32768x2816

/-- The reference's result. -/
def result (c : Dev nD) : FVec F S1280x2816 .f32 :=
  Host.dotGeneral dot_S4x32768x1280_S4x32768x2816_S1280x2816_01_01_2_2_n_n none
    (deqX (codesX m c) (m ((c : Thread nD τ).loc main_arg1))) (deqY (codesY m c) (m ((c : Thread nD τ).loc main_arg3)))

theorem arr_inj : Function.Injective (Pipeline.arrRef spec0) := launch0.win.arr_inj

/-- What the host lines after the region leave in the result. -/
theorem after_v13 (c : Dev nD) : Pipeline.afterTail₀ cfgs (dats m) 0 (V0 m) [hostOps1] c main_v13 = result m c := by
  have e2 := (Pipeline.withArrays_arr spec0 arr_inj c (V0 m c) (fun w => (dats m 0 c).arrAt w cfg0.N) 2).trans (arr2 m c)
  have e3 := (Pipeline.withArrays_arr spec0 arr_inj c (V0 m c) (fun w => (dats m 0 c).arrAt w cfg0.N) 3).trans (arr3 m c)
  have k1 := Pipeline.withArrays_of_ne spec0 c (V0 m c) (fun w => (dats m 0 c).arrAt w cfg0.N) main_arg1
    (by exact (by decide : ∀ w, Pipeline.arrRef spec0 w ≠ main_arg1))
  have k3 := Pipeline.withArrays_of_ne spec0 c (V0 m c) (fun w => (dats m 0 c).arrAt w cfg0.N) main_arg3
    (by exact (by decide : ∀ w, Pipeline.arrRef spec0 w ≠ main_arg3))
  unfold Pipeline.afterTail₀
  show StableHlo.after hostOps1 (Pipeline.withArrays spec0 c (V0 m c) (fun w => (dats m 0 c).arrAt w cfg0.N)) (Proc.devRef .tc main_v13) = _
  generalize Pipeline.withArrays spec0 c (V0 m c) (fun w => (dats m 0 c).arrAt w cfg0.N) = W at e2 e3 k1 k3 ⊢
  after_results
  change Host.dotGeneral dot_S4x32768x1280_S4x32768x2816_S1280x2816_01_01_2_2_n_n none
    (deqX (W (Proc.devRef .tc main_v0_0)) (W (Proc.devRef .tc main_arg1)))
    (deqY (W (Proc.devRef .tc main_v0_1)) (W (Proc.devRef .tc main_arg3))) = _
  unfold result
  rw [k1, k3]
  erw [e2, e3]
  rfl

/-- The reference runs, leaves `result` in its result and keeps its arguments. -/
theorem run : θ_run defs (onTc (τ := τ) (main (F := F))) ⟨m, fun _ => 0, ρ⟩ (fun r => ∀ c : Dev nD,
      r.2.mem ((c.tc : Thread nD τ).loc main_v13) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨h.1 c, h.2 c⟩) (θ_run_and (Q₁ := fun r => ∀ c : Dev nD, r.2.mem ((c.tc : Thread nD τ).loc main_v13) = result m c)
    ((θ_run defs _ _).mono (fun r h c =>
      ((h c).2 main_v13 (Pipeline.mem_restRefs_of main_v13 (by decide) (by decide))).trans (after_v13 m c)) (run_main m ρ))
    (unchanged m ρ))

end Cert.ReferenceIdeal.RefValue

end
-- ==== Proof.RefSum.lean ====
/- The reference's result read at an index: the double sum over batch and token of the products of the two operands'
   entries, an entry being its code times the scale of the 32 × 32 block it lies in. -/
module

public import proofs.«01_k».proof.Proof.RefValue
public import Idealize.ShloMosaic.Lib.ValueIdx
public import Idealize.ShloMosaic.Lib.TwoAxisContraction
public import Idealize.ShloMosaic.PureOps.Ideal.Laws

@[expose] public section

noncomputable section

namespace Cert.RefSum

open Idealize.ShloMosaic Idealize.ShloMosaic.TcCoe Idealize.ShloMosaic.ValueIdx
open scoped BigOperators

/-- A code as a number. -/
abbrev num (x : BitVec 8) : EReal := FloatOps.sitofp (F := Ideal) .bf16 x

/-- Cutting an array of codes into 32 × 32 blocks, scaling each block and putting the array together again multiplies
    every entry by the scale of its block. For any number `n` of blocks across. -/
theorem deq_apply {d n : ℕ} (hd : d = n * 32) (C : FVec Ideal ⟨3, ![4, 32768, d]⟩ .bf16) (s : FVec Ideal ⟨3, ![4, 1024, n]⟩ .bf16)
    (h1 : (⟨3, ![4, 32768, d]⟩ : Shape).ShapeCasts ⟨5, ![4, 1024, 32, n, 32]⟩)
    (h2 : (⟨5, ![4, 1024, 32, n, 32]⟩ : Shape).ShapeCasts ⟨3, ![4, 32768, d]⟩)
    (b1 : (⟨3, ![4, 1024, n]⟩ : Shape).BroadcastsInDim ⟨5, ![4, 1024, 1, n, 1]⟩ ![0, 1, 3])
    (b2 : (⟨5, ![4, 1024, 1, n, 1]⟩ : Shape).BroadcastsInDim ⟨5, ![4, 1024, 32, n, 32]⟩ ![0, 1, 2, 3, 4])
    (b : Fin 4) (t : Fin 32768) (i : Fin d) :
    shapeCast ⟨3, ![4, 32768, d]⟩ (mulf (shapeCast ⟨5, ![4, 1024, 32, n, 32]⟩ C h1)
      (broadcastInDim ⟨5, ![4, 1024, 32, n, 32]⟩ ![0, 1, 2, 3, 4] b2 (broadcastInDim ⟨5, ![4, 1024, 1, n, 1]⟩ ![0, 1, 3] b1 s))) h2 (ix3 b t i)
      = C (ix3 b t i) * s (ix3 b ⟨t.val / 32, by omega⟩ ⟨i.val / 32, by omega⟩) := by
  have ht := t.isLt
  have hi := i.isLt
  have hn : i.val / 32 < n := by omega
  let t1 : Fin 1024 := ⟨t.val / 32, by omega⟩
  let t2 : Fin 32 := ⟨t.val % 32, by omega⟩
  let i1 : Fin n := ⟨i.val / 32, hn⟩
  let i2 : Fin 32 := ⟨i.val % 32, by omega⟩
  have key : ((b.val * 32768 + t.val) * d + i.val)
      = ((((b.val * 1024 + t.val / 32) * 32 + t.val % 32) * n + i.val / 32) * 32 + i.val % 32) := by
    have e1 : (b.val * 1024 + t.val / 32) * 32 + t.val % 32 = b.val * 32768 + t.val := by omega
    have e2 : (b.val * 32768 + t.val) * d = (b.val * 32768 + t.val) * n * 32 := by rw [hd, Nat.mul_assoc]
    rw [e1, e2, Nat.add_mul _ _ 32, Nat.add_assoc, Nat.div_add_mod' i.val 32]
  have e5 : ((⟨5, ![4, 1024, 32, n, 32]⟩ : Shape).rowMajor (ix5 b t1 t2 i1 i2)).val
      = ((⟨3, ![4, 32768, d]⟩ : Shape).rowMajor (ix3 b t i)).val := by
    rw [Shape.rowMajor_val_three, Shape.rowMajor_val_five]
    exact key.symm
  rw [shapeCast_apply _ _ _ (ix5 b t1 t2 i1 i2) e5, mulf_apply, shapeCast_apply _ _ _ (ix3 b t i) e5.symm]
  congr 1
  rw [broadcastInDim_apply (k := ix5 b t1 (0 : Fin 1) i1 (0 : Fin 1)), broadcastInDim_apply (k := ix3 b t1 i1)]
  · intro a
    match a with
    | ⟨0, _⟩ => rfl
    | ⟨1, _⟩ => rfl
    | ⟨2, _⟩ =>
      show i.val / 32 = if n = 1 then 0 else i.val / 32
      split <;> omega
  · intro a
    match a with
    | ⟨0, _⟩ => rfl
    | ⟨1, _⟩ => rfl
    | ⟨2, _⟩ => rfl
    | ⟨3, _⟩ =>
      show i.val / 32 = if n = 1 then 0 else i.val / 32
      split <;> omega
    | ⟨4, _⟩ => rfl

end Cert.RefSum

namespace Cert.ReferenceIdeal.RefValue

open Idealize.ShloMosaic Idealize.ShloMosaic.TcCoe Idealize.ShloMosaic.ValueIdx
open Cert.ReferenceIdeal Cert.RefSum
open scoped BigOperators

/-- The contraction of both leading axes read at (i, j): the double sum over batch and token. -/
theorem dot_apply (L : FVec Ideal S4x32768x1280 .bf16) (R : FVec Ideal S4x32768x2816 .bf16) (i : Fin 1280) (j : Fin 2816) :
    (Host.dotGeneral dot_S4x32768x1280_S4x32768x2816_S1280x2816_01_01_2_2_n_n none L R : FVec Ideal S1280x2816 .f32) (ix2 i j)
      = ∑ b : Fin 4, ∑ t : Fin 32768, L (ix3 b t i) * R (ix3 b t j) := by
  let D := dot_S4x32768x1280_S4x32768x2816_S1280x2816_01_01_2_2_n_n
  simp only [Host.dotGeneral]
  rw [Ideal.dotGeneral_apply, sum_contr2 D 4 32768 rfl rfl rfl]
  refine Finset.sum_congr rfl fun b _ => Finset.sum_congr rfl fun t _ => ?_
  have h0 := contrEquiv2_symm_val0 D 4 32768 rfl rfl rfl (b, t)
  have h1 := contrEquiv2_symm_val1 D 4 32768 rfl rfl rfl (b, t)
  have el : D.lhsIdx (ix2 i j) ((contrEquiv2 D 4 32768 rfl rfl rfl).symm (b, t)) = ix3 b t i := by
    funext a; apply Fin.ext
    match a with
    | ⟨0, _⟩ => exact h0
    | ⟨1, _⟩ => exact h1
    | ⟨2, _⟩ => rfl
  have er : D.rhsIdx (ix2 i j) ((contrEquiv2 D 4 32768 rfl rfl rfl).symm (b, t)) = ix3 b t j := by
    funext a; apply Fin.ext
    match a with
    | ⟨0, _⟩ => exact h0
    | ⟨1, _⟩ => exact h1
    | ⟨2, _⟩ => rfl
  rw [el, er]

variable (m : (ℓ : Loc nD τ sig) → Buf (Elt Ideal) ℓ)

/-- The reference's result at (i, j), from its four arguments. -/
theorem result_apply (c : Dev nD) (i : Fin 1280) (j : Fin 2816) :
    result m c (ix2 i j) = ∑ b : Fin 4, ∑ t : Fin 32768,
      num ((m ((c : Thread nD τ).loc main_arg0) : Vec Ideal S4x32768x1280 .i8) (ix3 b t i))
        * (m ((c : Thread nD τ).loc main_arg1) : FVec Ideal S4x1024x40 .f32) (ix3 b ⟨t.val / 32, by omega⟩ ⟨i.val / 32, by omega⟩)
      * (num ((m ((c : Thread nD τ).loc main_arg2) : Vec Ideal S4x32768x2816 .i8) (ix3 b t j))
        * (m ((c : Thread nD τ).loc main_arg3) : FVec Ideal S4x1024x88 .f32) (ix3 b ⟨t.val / 32, by omega⟩ ⟨j.val / 32, by omega⟩)) := by
  unfold result
  rw [dot_apply]
  refine Finset.sum_congr rfl fun b _ => Finset.sum_congr rfl fun t _ => ?_
  exact congrArg₂ (· * ·) (deq_apply (n := 40) rfl _ _ _ _ _ _ b t i) (deq_apply (n := 88) rfl _ _ _ _ _ _ b t j)

end Cert.ReferenceIdeal.RefValue

end
-- ==== Proof.Tile.lean ====
/- One 32 × 128 tile of a dequantised operand, as the kernel computes it, and the block it is a part of.

   The kernel keeps a block's scales in the first lanes of a 32 × 128 pad, gathers for each run of 128 columns the four
   scales those columns need, spreads row g of the gathered scales over the 32 rows of tile g, and multiplies the codes
   by it. At the extended reals the tile is therefore the part under its rectangle of ONE function of the block,
   `deq`: the code at (r, l) times the pad's entry (r / 32, l / 32). -/
module

public import proofs.«01_k».proof.Proof.Gen.KernelIdeal.Value
public import proofs.«01_k».proof.Proof.RefSum
public import Idealize.ShloMosaic.Lib.ValueIdx
public import Idealize.ShloMosaic.Lib.Pipeline.ReadBack

@[expose] public section

noncomputable section

namespace Cert.Tile

open Idealize.ShloMosaic Idealize.ShloMosaic.TcCoe Idealize.ShloMosaic.ValueIdx
open Cert.KernelIdeal Cert.KernelIdeal.Gen Cert.RefSum

variable {F : FTy → Type} [FloatOps F]

/-- The lane each lane of a gathered row reads, for the run of columns whose scales begin at lane `k`. -/
def laneIdx (k : BitVec 32) : IVec S32x128 32 :=
  shapeCast S32x128 (shapeCast S32x128x1
    (select (cmpi .slt (addi k0_pay9 (broadcast S32x128 k)) (broadcast S32x128 0#32))
      (addi (addi k0_pay9 (broadcast S32x128 k)) (broadcast S32x128 128#32))
      (addi k0_pay9 (broadcast S32x128 k)))
    shapeCasts_S32x128_S32x128x1) shapeCasts_S32x128x1_S32x128

/-- The scales gathered from the pad for the run of columns whose scales begin at lane `k`. -/
def wide (k : BitVec 32) (pad : FVec F S32x128 .f32) : FVec F S32x128 .f32 :=
  dynamicGather 1 (k0_pay8 pad) (laneIdx k)

/-- Tile `g` of a run of columns: its codes times row `g` of the gathered scales. -/
def tile (g : ℕ) (h : S32x128.Slices ![g, 0] S1x128) (w : FVec F S32x128 .f32) (codes : Vec F S32x128 .i8) :
    FVec F S32x128 .bf16 :=
  shapeCast S32x128
    (mulf (sitofp .bf16 (shapeCast S32x128 codes shapeCasts_S32x128_S32x128 : IVec S32x128 8))
      (truncf .bf16 (broadcastTo S32x128
        (shapeCast S1x128 (extractStridedSlice S1x128 ![g, 0] w h) shapeCasts_S1x128_S1x128)
        broadcasts_S1x128_S32x128) bitsLt_bf16_f32))
    shapeCasts_S32x128_S32x128

/-- A lane's group, the lane over 32. -/
theorem lane_group (l : Fin 128) : k0_pay9 (ix2 (0 : Fin 32) l) = BitVec.ofNat 32 (l.val / 32) := by
  revert l; decide +kernel

theorem lane_group_row (r : Fin 32) (l : Fin 128) : k0_pay9 (ix2 r l) = BitVec.ofNat 32 (l.val / 32) :=
  (show k0_pay9 (ix2 r l) = k0_pay9 (ix2 (0 : Fin 32) l) from rfl).trans (lane_group l)

/-- For each run `c` of 128 columns, lane `l` reads lane `4 c + l / 32`. -/
theorem lane_word (c : Fin 32) (l : Fin 128) :
    (Scalar.select
      (Scalar.cmpi .slt (BitVec.ofNat 32 (l.val / 32) + BitVec.ofNat 32 (c.val * 4)) 0#32)
      (BitVec.ofNat 32 (l.val / 32) + BitVec.ofNat 32 (c.val * 4) + 128#32)
      (BitVec.ofNat 32 (l.val / 32) + BitVec.ofNat 32 (c.val * 4))).toNat % 128 = c.val * 4 + l.val / 32 := by
  revert c l; decide +kernel

theorem laneIdx_apply (c : Fin 32) (r : Fin 32) (l : Fin 128) :
    (laneIdx (BitVec.ofNat 32 (c.val * 4)) (ix2 r l)).toNat % 128 = c.val * 4 + l.val / 32 := by
  unfold laneIdx
  rw [shapeCast_apply _ _ _ (ix3 r l (0 : Fin 1)), shapeCast_apply _ _ _ (ix2 r l)]
  · have h := lane_group_row r l
    refine Eq.trans ?_ (lane_word c l)
    rw [← h]
    rfl
  · rw [Shape.rowMajor_val_two, Shape.rowMajor_val_three]
    show r.val * 128 + l.val = (r.val * 128 + l.val) * 1 + 0
    omega
  · rw [Shape.rowMajor_val_two, Shape.rowMajor_val_three]
    show (r.val * 128 + l.val) * 1 + 0 = r.val * 128 + l.val
    omega

/-- The gathered scales read at an index. -/
theorem wide_apply (c : Fin 32) (pad : FVec Ideal S32x128 .f32) (r : Fin 32) (l : Fin 128) :
    wide (BitVec.ofNat 32 (c.val * 4)) pad (ix2 r l) = pad (ix2 r ⟨c.val * 4 + l.val / 32, by omega⟩) := by
  unfold wide dynamicGather
  refine (show k0_pay8 pad _ = pad _ from rfl).trans ?_
  congr 1
  funext a
  apply Fin.ext
  match a with
  | ⟨0, _⟩ => rfl
  | ⟨1, _⟩ => exact laneIdx_apply c r l

/-- A tile read at an index. -/
theorem tile_apply (g : ℕ) (h : S32x128.Slices ![g, 0] S1x128) (hg : g < 32) (w : FVec Ideal S32x128 .f32)
    (codes : Vec Ideal S32x128 .i8) (r : Fin 32) (l : Fin 128) :
    tile g h w codes (ix2 r l) = num (codes (ix2 r l)) * w (ix2 (⟨g, hg⟩ : Fin 32) l) := by
  unfold tile
  simp only [shapeCast_self]
  rw [mulf_apply, sitofp_apply]
  refine congrArg (num (codes (ix2 r l)) * ·) ?_
  show broadcastTo S32x128 (extractStridedSlice S1x128 ![g, 0] w h) broadcasts_S1x128_S32x128 (ix2 r l) = _
  rw [broadcastTo_apply (k := ix2 (0 : Fin 1) l), extractStridedSlice_apply (k := ix2 (⟨g, hg⟩ : Fin 32) l)]
  · intro a
    match a with
    | ⟨0, _⟩ => rfl
    | ⟨1, _⟩ => show l.val = 0 + l.val; omega
  · intro a
    match a with
    | ⟨0, _⟩ => rfl
    | ⟨1, _⟩ => rfl

/-- A dequantised block: each code times the pad's entry for its 32 × 32 block. For any width. -/
def deq {W : ℕ} (hW : W ≤ 4096) (pad : FVec Ideal S32x128 .f32) (codes : Vec Ideal ⟨2, ![1024, W]⟩ .i8) :
    FVec Ideal ⟨2, ![1024, W]⟩ .bf16 :=
  fun y => num (codes y) * pad (ix2 (⟨(y 0).val / 32, by have : (y 0).val < 1024 := (y 0).isLt; omega⟩ : Fin 32)
    (⟨(y 1).val / 32, by have : (y 1).val < W := (y 1).isLt; omega⟩ : Fin 128))

/-- A tile stored at rows `o₀` and columns `o₁` of a block is the part of `deq` under it. -/
theorem tile_piece {W : ℕ} (hW : W ≤ 4096) (o₀ o₁ : ℕ)
    (inb : ∀ a, (![o₀, o₁] : Fin 2 → ℕ) a + S32x128.size a ≤ (⟨2, ![1024, W]⟩ : Shape).size a)
    (h₀ : o₀ % 32 = 0) (h₁ : o₁ % 128 = 0) (hs : S32x128.Slices ![o₀ / 32, 0] S1x128)
    (pad : FVec Ideal S32x128 .f32) (codes : Vec Ideal ⟨2, ![1024, W]⟩ .i8)
    (w : FVec Ideal S32x128 .bf16)
    (hw : w = tile (o₀ / 32) hs (wide (BitVec.ofNat 32 (o₁ / 128 * 4)) pad)
      (View.ld codes (Rect.unit (s := ⟨2, ![1024, W]⟩) ![o₀, o₁] S32x128.size inb)))
    (x : S32x128.Idx) :
    w x = deq hW pad codes ((Rect.unit (s := ⟨2, ![1024, W]⟩) ![o₀, o₁] S32x128.size inb).emb x) := by
  have i₀ : o₀ + 32 ≤ 1024 := inb 0
  have i₁ : o₁ + 128 ≤ W := inb 1
  have hc : o₁ / 128 < 32 := by omega
  obtain ⟨r, l, rfl⟩ : ∃ (r : Fin 32) (l : Fin 128), x = ix2 r l := ⟨x 0, x 1, eq_ix2 x⟩
  subst hw
  have hr := r.isLt
  have hl := l.isLt
  rw [tile_apply _ _ (by omega), wide_apply ⟨o₁ / 128, hc⟩]
  unfold deq
  refine congrArg (num _ * ·) (congrArg pad ?_)
  funext a
  apply Fin.ext
  match a with
  | ⟨0, _⟩ =>
    show o₀ / 32 = (o₀ + 1 * r.val) / 32
    omega
  | ⟨1, _⟩ =>
    show o₁ / 128 * 4 + l.val / 32 = (o₁ + 1 * l.val) / 32
    omega

end Cert.Tile

end
-- ==== Proof.Pieces.lean ====
/- The stores of the kernel's body into its two bf16 scratches, in both cases of the body (the first grid point, and
   every later one): each list of stores consists of tiles of ONE function of the block, `Tile.deq`, and covers the
   scratch, so what the matrix product reads back is that function. -/
module

public import proofs.«01_k».proof.Proof.Tile

@[expose] public section

noncomputable section

namespace Cert.Pieces

open Idealize.ShloMosaic Idealize.ShloMosaic.TcCoe Idealize.ShloMosaic.ValueIdx
open Cert.KernelIdeal Cert.KernelIdeal.Gen Cert.RefSum Cert.Tile

/-- A list of stores that begins with a tile of `deq` and goes on with parts of it consists of parts of it. -/
theorem cons_tile {W : ℕ} (hW : W ≤ 4096) (pad : FVec Ideal S32x128 .f32) (codes : Vec Ideal ⟨2, ![1024, W]⟩ .i8) (o₀ o₁ : ℕ)
    (inb : ∀ a, (![o₀, o₁] : Fin 2 → ℕ) a + S32x128.size a ≤ (⟨2, ![1024, W]⟩ : Shape).size a)
    (w : FVec Ideal S32x128 .bf16) (L : List (View.Piece (Elt Ideal) ⟨2, ![1024, W]⟩ .bf16))
    (h₀ : o₀ % 32 = 0) (h₁ : o₁ % 128 = 0) (hs : S32x128.Slices ![o₀ / 32, 0] S1x128)
    (hw : w = tile (o₀ / 32) hs (wide (BitVec.ofNat 32 (o₁ / 128 * 4)) pad)
      (View.ld codes (Rect.unit (s := ⟨2, ![1024, W]⟩) ![o₀, o₁] S32x128.size inb)))
    (h : View.PiecesOf (deq hW pad codes) L) :
    View.PiecesOf (deq hW pad codes) (⟨Rect.unit (s := ⟨2, ![1024, W]⟩) ![o₀, o₁] S32x128.size inb, w⟩ :: L) :=
  ⟨tile_piece hW o₀ o₁ inb h₀ h₁ hs pad codes w hw, h⟩

/-- The codes may be replaced by equal ones. -/
theorem of_eq_codes {W : ℕ} {hW : W ≤ 4096} {pad : FVec Ideal S32x128 .f32} {x' x : Vec Ideal ⟨2, ![1024, W]⟩ .i8}
    (L : List (View.Piece (Elt Ideal) ⟨2, ![1024, W]⟩ .bf16)) (e : x' = x) (h : View.PiecesOf (deq hW pad x') L) :
    View.PiecesOf (deq hW pad x) L := e ▸ h

/-- A covered load of the whole of a scratch, after stores that consist of parts of `G` and cover it, reads `G`. -/
theorem readCov_pieces {S : Shape} {e : EltTy} {sig : RefSig} {κ : Kind} {sp : Space} (v : View sig κ sp S e)
    (G : S.Idx → Elt Ideal e) (L : List (View.Piece (Elt Ideal) S e)) {off : Fin S.rank → ℕ} (hz : off = fun _ => 0)
    (inb : ∀ a, off a + S.size a ≤ S.size a) (h : View.PiecesOf G L) (hc : ∀ y, ∃ p ∈ L, y ∈ p.1.set) :
    v.readCov L (Rect.unit off S.size inb).toLoadRect = G := by
  rw [View.readCov_eq_canon_ld _ _ _ hc, View.ld_unit_zero hz]
  exact funext fun y => View.canon_apply_of_pieces G L h.mem y (hc y)

variable (c : Dev nD)
  (arg1 : Memref sig .tc .vmem S1024x1280 .i8) (harg1 : arg1.IsWhole) (arg2 : Memref sig .tc .vmem S32x40 .f32) (harg2 : arg2.IsWhole)
  (arg3 : Memref sig .tc .vmem S1024x2816 .i8) (harg3 : arg3.IsWhole) (arg4 : Memref sig .tc .vmem S32x88 .f32) (harg4 : arg4.IsWhole)
  (arg6 : Memref sig .tc .vmem S1024x1280 .bf16) (arg7 : Memref sig .tc .vmem S1024x2816 .bf16)
  (arg8 : Memref sig .tc .vmem S32x128 .f32) (harg8 : arg8.IsWhole) (arg9 : Memref sig .tc .vmem S32x128 .f32) (harg9 : arg9.IsWhole)
  (x0 : Vec Ideal S1024x1280 .i8) (x1 : Vec Ideal S32x40 .f32) (x2 : Vec Ideal S1024x2816 .i8) (x3 : Vec Ideal S32x88 .f32)
  (xs2 xs3 : Vec Ideal S32x128 .f32)

/-- The first operand's tiles address pad lanes that exist: 1280 columns are 40 scale lanes of 128. -/
theorem width_x : 1280 ≤ 4096 := by decide
/-- So do the second operand's: 2816 columns are 88 scale lanes of 128. -/
theorem width_y : 2816 ≤ 4096 := by decide

/-- A later point's pad of the first operand's scales: what the point before left with this point's scales stored over it. -/
abbrev padX : FVec Ideal S32x128 .f32 :=
  View.readAt (Elt Ideal) arg8.view (Rect.unit ![0, 0] S32x128.size inb_S32x128_S32x128_0_0).toLoadRect
    (arg8.view.writes (Elt Ideal) (harg8.unread xs2) (kernelRun0_B.sl.HS2_1 c arg2 harg2 x1))

/-- A later point's pad of the second operand's scales. -/
abbrev padY : FVec Ideal S32x128 .f32 :=
  View.readAt (Elt Ideal) arg9.view (Rect.unit ![0, 0] S32x128.size inb_S32x128_S32x128_0_0).toLoadRect
    (arg9.view.writes (Elt Ideal) (harg9.unread xs3) (kernelRun0_B.sl.HS3_1 c arg4 harg4 x3))

set_option maxRecDepth 16384 in
/-- At the first point, every tile stored into the first operand's scratch is a part of its dequantised block. -/
theorem pieces_x_A : View.PiecesOf (deq width_x (kernelRun0_A.sl.v8 c arg2 harg2 arg8 x1) x0)
    (kernelRun0_A.sl.HS0_320 (F := Ideal) c arg1 harg1 arg2 harg2 arg8 x0 x1) := by
  refine of_eq_codes _ (harg1.read_unread (Val := Elt Ideal) x0) ?_
  unfold kernelRun0_A.sl.HS0_320
  repeat (refine cons_tile _ _ _ _ _ _ _ _ (by decide) (by decide) (by decide) rfl ?_)
  trivial

set_option maxRecDepth 16384 in
/-- At the first point, the product's load of the first operand's scratch reads its dequantised block. -/
theorem read_x_A : kernelRun0_A.sl.v11655 (F := Ideal) c arg1 harg1 arg2 harg2 arg6 arg8 x0 x1 = (deq width_x (kernelRun0_A.sl.v8 c arg2 harg2 arg8 x1) x0) := by
  unfold kernelRun0_A.sl.v11655
  exact readCov_pieces arg6.view _ _ (by decide) _ (pieces_x_A c arg1 harg1 arg2 harg2 arg8 x0 x1) (View.cover_of_tiledL _ S32x128.size (by sl_kernel_rfl))

set_option maxRecDepth 16384 in
/-- At a later point, every tile stored into the first operand's scratch is a part of its dequantised block. -/
theorem pieces_x_B : View.PiecesOf (deq width_x (padX c arg2 harg2 arg8 harg8 x1 xs2) x0)
    (kernelRun0_B.sl.HS0_320 (F := Ideal) c arg1 harg1 arg2 harg2 arg8 harg8 x0 x1 xs2) := by
  refine of_eq_codes _ (harg1.read_unread (Val := Elt Ideal) x0) ?_
  unfold kernelRun0_B.sl.HS0_320
  repeat (refine cons_tile _ _ _ _ _ _ _ _ (by decide) (by decide) (by decide) rfl ?_)
  trivial

set_option maxRecDepth 16384 in
/-- At a later point, the product's load of the first operand's scratch reads its dequantised block. -/
theorem read_x_B : kernelRun0_B.sl.v11655 (F := Ideal) c arg1 harg1 arg2 harg2 arg6 arg8 harg8 x0 x1 xs2 = (deq width_x (padX c arg2 harg2 arg8 harg8 x1 xs2) x0) := by
  unfold kernelRun0_B.sl.v11655
  exact readCov_pieces arg6.view _ _ (by decide) _ (pieces_x_B c arg1 harg1 arg2 harg2 arg8 harg8 x0 x1 xs2) (View.cover_of_tiledL _ S32x128.size (by sl_kernel_rfl))

set_option maxRecDepth 16384 in
/-- At the first point, every tile stored into the second operand's scratch is a part of its dequantised block. -/
theorem pieces_y_A : View.PiecesOf (deq width_y (kernelRun0_A.sl.v3661 c arg4 harg4 arg9 x3) x2)
    (kernelRun0_A.sl.HS1_704 (F := Ideal) c arg3 harg3 arg4 harg4 arg9 x2 x3) := by
  refine of_eq_codes _ (harg3.read_unread (Val := Elt Ideal) x2) ?_
  unfold kernelRun0_A.sl.HS1_704
  repeat (refine cons_tile _ _ _ _ _ _ _ _ (by decide) (by decide) (by decide) rfl ?_)
  trivial

set_option maxRecDepth 16384 in
/-- At the first point, the product's load of the second operand's scratch reads its dequantised block. -/
theorem read_y_A : kernelRun0_A.sl.v11656 (F := Ideal) c arg3 harg3 arg4 harg4 arg7 arg9 x2 x3 = (deq width_y (kernelRun0_A.sl.v3661 c arg4 harg4 arg9 x3) x2) := by
  unfold kernelRun0_A.sl.v11656
  exact readCov_pieces arg7.view _ _ (by decide) _ (pieces_y_A c arg3 harg3 arg4 harg4 arg9 x2 x3) (View.cover_of_tiledL _ S32x128.size (by sl_kernel_rfl))

set_option maxRecDepth 16384 in
/-- At a later point, every tile stored into the second operand's scratch is a part of its dequantised block. -/
theorem pieces_y_B : View.PiecesOf (deq width_y (padY c arg4 harg4 arg9 harg9 x3 xs3) x2)
    (kernelRun0_B.sl.HS1_704 (F := Ideal) c arg3 harg3 arg4 harg4 arg9 harg9 x2 x3 xs3) := by
  refine of_eq_codes _ (harg3.read_unread (Val := Elt Ideal) x2) ?_
  unfold kernelRun0_B.sl.HS1_704
  repeat (refine cons_tile _ _ _ _ _ _ _ _ (by decide) (by decide) (by decide) rfl ?_)
  trivial

set_option maxRecDepth 16384 in
/-- At a later point, the product's load of the second operand's scratch reads its dequantised block. -/
theorem read_y_B : kernelRun0_B.sl.v11656 (F := Ideal) c arg3 harg3 arg4 harg4 arg7 arg9 harg9 x2 x3 xs3 = (deq width_y (padY c arg4 harg4 arg9 harg9 x3 xs3) x2) := by
  unfold kernelRun0_B.sl.v11656
  exact readCov_pieces arg7.view _ _ (by decide) _ (pieces_y_B c arg3 harg3 arg4 harg4 arg9 harg9 x2 x3 xs3) (View.cover_of_tiledL _ S32x128.size (by sl_kernel_rfl))

end Cert.Pieces

end
-- ==== Proof.Body.lean ====
/- What one pass of the kernel's body leaves in the output's buffer: the products of this block of tokens, summed over
   its 1024 rows, added to zero at the first point and to what the buffer held at every later one. -/
module

public import proofs.«01_k».proof.Proof.Pieces

@[expose] public section

noncomputable section

namespace Cert.Body

open Idealize.ShloMosaic Idealize.ShloMosaic.TcCoe Idealize.ShloMosaic.ValueIdx
open Cert.KernelIdeal Cert.KernelIdeal.Gen Cert.RefSum Cert.Tile Cert.Pieces
open scoped BigOperators

/-- One entry of an operand's block: the code at row `r` and column `i` times the scale of its 32 × 32 block. -/
def entry {W n : ℕ} (hW : W = n * 32) (x : Vec Ideal ⟨2, ![1024, W]⟩ .i8) (s : Vec Ideal ⟨2, ![32, n]⟩ .f32) (r : Fin 1024) (i : Fin W) : EReal :=
  num (x (ix2 r i)) * (s (ix2 (⟨r.val / 32, by omega⟩ : Fin 32) (⟨i.val / 32, by have := i.isLt; omega⟩ : Fin n)) : EReal)

/-- What one block of 1024 tokens adds to the result at (i, j). -/
def contrib (x0 : Vec Ideal S1024x1280 .i8) (x1 : Vec Ideal S32x40 .f32) (x2 : Vec Ideal S1024x2816 .i8) (x3 : Vec Ideal S32x88 .f32)
    (i : Fin 1280) (j : Fin 2816) : EReal :=
  ∑ r : Fin 1024, entry (n := 40) rfl x0 x1 r i * entry (n := 88) rfl x2 x3 r j

/-- Where the pad agrees with the scales, a dequantised block is `entry`. -/
theorem deq_entry {W n : ℕ} (hn : W = n * 32) (hW : W ≤ 4096) (pad : FVec Ideal S32x128 .f32) (x : Vec Ideal ⟨2, ![1024, W]⟩ .i8)
    (s : Vec Ideal ⟨2, ![32, n]⟩ .f32)
    (hp : ∀ (q : Fin 32) (l : Fin 128) (h : l.val < n), pad (ix2 q l) = s (ix2 q (⟨l.val, h⟩ : Fin n)))
    (r : Fin 1024) (i : Fin W) : deq hW pad x (ix2 r i) = entry hn x s r i := by
  have hi := i.isLt
  unfold deq entry
  exact congrArg (num (x (ix2 r i)) * ·) (hp ⟨r.val / 32, by omega⟩ ⟨i.val / 32, by omega⟩ (by show i.val / 32 < n; omega))

/-- The last store into a pad, of the block's scales at its corner, read back at one of their lanes: whatever the pad held
    before and whatever was stored before. -/
theorem corner_read {n : ℕ} {sig : RefSig} {κ : Kind} {sp : Space} (v : View sig κ sp S32x128 .f32) (f : v.ty.Contents (Elt Ideal))
    (inb : ∀ a, (![0, 0] : Fin 2 → ℕ) a + (⟨2, ![32, n]⟩ : Shape).size a ≤ S32x128.size a)
    (w : Vec Ideal ⟨2, ![32, n]⟩ .f32) (L : List (View.Piece (Elt Ideal) S32x128 .f32)) (q : Fin 32) (l : Fin 128) (h : l.val < n) :
    v.read (Elt Ideal) (v.writes (Elt Ideal) f (⟨Rect.unit (s := S32x128) ![0, 0] (⟨2, ![32, n]⟩ : Shape).size inb, w⟩ :: L)) (ix2 q l)
      = w (ix2 q (⟨l.val, h⟩ : Fin n)) := by
  have e : (ix2 q l : S32x128.Idx)
      = (Rect.unit (s := S32x128) ![0, 0] (⟨2, ![32, n]⟩ : Shape).size inb).emb (ix2 q (⟨l.val, h⟩ : Fin n)) := by
    funext a
    apply Fin.ext
    match a with
    | ⟨0, _⟩ => show q.val = 0 + 1 * q.val; omega
    | ⟨1, _⟩ => show l.val = 0 + 1 * l.val; omega
  rw [e]
  exact View.read_writes_cons_emb v f (Rect.unit (s := S32x128) ![0, 0] (⟨2, ![32, n]⟩ : Shape).size inb) w L _

/-- The body's matrix product of two dequantised blocks, read at (i, j). -/
theorem product_apply (L : FVec Ideal S1024x1280 .bf16) (R : FVec Ideal S1024x2816 .bf16) (i : Fin 1280) (j : Fin 2816) :
    (matmul dot_S1024x1280_S1024x2816_S1280x2816_0_0_1_1_n_n none L R (constant S1280x2816 .f32 0x00000000#32) : FVec Ideal S1280x2816 .f32) (ix2 i j)
      = ∑ r : Fin 1024, L (ix2 r i) * R (ix2 r j) := by
  let D := dot_S1024x1280_S1024x2816_S1280x2816_0_0_1_1_n_n
  simp only [matmul]
  rw [Ideal.matmul_constant_zero_apply, ← Equiv.sum_comp (contrEquiv1 D 1024 rfl rfl).symm]
  refine Finset.sum_congr rfl fun r _ => ?_
  have h0 := contrEquiv1_symm_val D 1024 rfl rfl r
  have el : D.lhsIdx (ix2 i j) ((contrEquiv1 D 1024 rfl rfl).symm r) = ix2 r i := by
    funext a; apply Fin.ext
    match a with
    | ⟨0, _⟩ => exact h0
    | ⟨1, _⟩ => rfl
  have er : D.rhsIdx (ix2 i j) ((contrEquiv1 D 1024 rfl rfl).symm r) = ix2 r j := by
    funext a; apply Fin.ext
    match a with
    | ⟨0, _⟩ => exact h0
    | ⟨1, _⟩ => rfl
  rw [el, er]

theorem zero2 : (![0, 0] : Fin 2 → ℕ) = fun _ => 0 := by decide

variable (c : Dev nD) (i : grid0.Coords)
  (arg1 : Memref sig .tc .vmem S1024x1280 .i8) (harg1 : arg1.IsWhole) (arg2 : Memref sig .tc .vmem S32x40 .f32) (harg2 : arg2.IsWhole)
  (arg3 : Memref sig .tc .vmem S1024x2816 .i8) (harg3 : arg3.IsWhole) (arg4 : Memref sig .tc .vmem S32x88 .f32) (harg4 : arg4.IsWhole)
  (arg5 : Memref sig .tc .vmem S1280x2816 .f32) (harg5 : arg5.IsWhole)
  (arg6 : Memref sig .tc .vmem S1024x1280 .bf16) (harg6 : arg6.IsWhole) (arg7 : Memref sig .tc .vmem S1024x2816 .bf16) (harg7 : arg7.IsWhole)
  (arg8 : Memref sig .tc .vmem S32x128 .f32) (harg8 : arg8.IsWhole) (arg9 : Memref sig .tc .vmem S32x128 .f32) (harg9 : arg9.IsWhole)
  (x0 : Vec Ideal S1024x1280 .i8) (x1 : Vec Ideal S32x40 .f32) (x2 : Vec Ideal S1024x2816 .i8) (x3 : Vec Ideal S32x88 .f32)
  (xo4 : Vec Ideal S1280x2816 .f32) (xs2 xs3 : Vec Ideal S32x128 .f32)

/-- The scales as the body loads them and casts them to their own shape. -/
theorem scales_x : k0_pay7 (View.readAt (Elt Ideal) arg2.view (Rect.unit ![0, 0] S32x40.size inb_S32x40_S32x40_0_0).toLoadRect (harg2.unread x1)) = x1 := by
  unfold k0_pay7
  simp only [shapeCast_self]
  rw [View.readAt_eq_ld, harg2.read_unread, View.ld_unit_zero (S := S32x40) zero2]

theorem scales_y : k0_pay436 (View.readAt (Elt Ideal) arg4.view (Rect.unit ![0, 0] S32x88.size inb_S32x88_S32x88_0_0).toLoadRect (harg4.unread x3)) = x3 := by
  unfold k0_pay436
  simp only [shapeCast_self]
  rw [View.readAt_eq_ld, harg4.read_unread, View.ld_unit_zero (S := S32x88) zero2]

/-- A load of the whole pad reads the contents. -/
theorem whole_read {sig : RefSig} {κ : Kind} {sp : Space} (v : View sig κ sp S32x128 .f32) (f : v.ty.Contents (Elt Ideal)) :
    View.readAt (Elt Ideal) v (Rect.unit ![0, 0] S32x128.size inb_S32x128_S32x128_0_0).toLoadRect f = v.read (Elt Ideal) f := by
  rw [View.readAt_eq_ld, View.ld_unit_zero (S := S32x128) zero2]

theorem pad_x_A (q : Fin 32) (l : Fin 128) (h : l.val < 40) :
    kernelRun0_A.sl.v8 (F := Ideal) c arg2 harg2 arg8 x1 (ix2 q l) = x1 (ix2 q (⟨l.val, h⟩ : Fin 40)) := by
  refine (congrFun (whole_read arg8.view (arg8.view.writes (Elt Ideal) arg8.view.junk (kernelRun0_A.sl.HS2_2 c arg2 harg2 x1))) (ix2 q l)).trans ?_
  unfold kernelRun0_A.sl.HS2_2
  exact (corner_read (n := 40) _ _ _ _ _ q l h).trans (congrFun (scales_x arg2 harg2 x1) _)

theorem pad_x_B (q : Fin 32) (l : Fin 128) (h : l.val < 40) :
    padX c arg2 harg2 arg8 harg8 x1 xs2 (ix2 q l) = x1 (ix2 q (⟨l.val, h⟩ : Fin 40)) := by
  refine (congrFun (whole_read arg8.view _) (ix2 q l)).trans ?_
  unfold kernelRun0_B.sl.HS2_1
  exact (corner_read (n := 40) _ _ _ _ _ q l h).trans (congrFun (scales_x arg2 harg2 x1) _)

theorem pad_y_A (q : Fin 32) (l : Fin 128) (h : l.val < 88) :
    kernelRun0_A.sl.v3661 (F := Ideal) c arg4 harg4 arg9 x3 (ix2 q l) = x3 (ix2 q (⟨l.val, h⟩ : Fin 88)) := by
  refine (congrFun (whole_read arg9.view (arg9.view.writes (Elt Ideal) arg9.view.junk (kernelRun0_A.sl.HS3_2 c arg4 harg4 x3))) (ix2 q l)).trans ?_
  unfold kernelRun0_A.sl.HS3_2
  exact (corner_read (n := 88) _ _ _ _ _ q l h).trans (congrFun (scales_y arg4 harg4 x3) _)

theorem pad_y_B (q : Fin 32) (l : Fin 128) (h : l.val < 88) :
    padY c arg4 harg4 arg9 harg9 x3 xs3 (ix2 q l) = x3 (ix2 q (⟨l.val, h⟩ : Fin 88)) := by
  refine (congrFun (whole_read arg9.view _) (ix2 q l)).trans ?_
  unfold kernelRun0_B.sl.HS3_1
  exact (corner_read (n := 88) _ _ _ _ _ q l h).trans (congrFun (scales_y arg4 harg4 x3) _)

/-- The body's last value: what it read of the output plus the product of the two dequantised blocks. -/
theorem last_apply (old : Vec Ideal S1280x2816 .f32) (px py : FVec Ideal S32x128 .f32)
    (hx : ∀ (q : Fin 32) (l : Fin 128) (h : l.val < 40), px (ix2 q l) = x1 (ix2 q (⟨l.val, h⟩ : Fin 40)))
    (hy : ∀ (q : Fin 32) (l : Fin 128) (h : l.val < 88), py (ix2 q l) = x3 (ix2 q (⟨l.val, h⟩ : Fin 88)))
    (a : Fin 1280) (b : Fin 2816) :
    k0_pay3 old (deq width_x px x0) (deq width_y py x2) (ix2 a b) = (old (ix2 a b) : EReal) + contrib x0 x1 x2 x3 a b := by
  unfold k0_pay3
  simp only [shapeCast_self]
  rw [addf_apply, product_apply]
  refine congrArg ((old (ix2 a b) : EReal) + ·) (Finset.sum_congr rfl fun r _ => ?_)
  exact congrArg₂ (· * ·) (deq_entry (n := 40) rfl width_x px x0 x1 hx r a) (deq_entry (n := 88) rfl width_y py x2 x3 hy r b)

/-- The first point: this block's contribution. -/
theorem out_A (hc0 : cond0_0 i) (a : Fin 1280) (b : Fin 2816) :
    (out0_A_4 (F := Ideal) c i arg1 harg1 arg2 harg2 arg3 harg3 arg4 harg4 arg5 harg5 arg6 harg6 arg7 harg7 arg8 harg8 arg9 harg9 hc0 x0 x1 x2 x3 (ix2 a b) : EReal)
      = contrib x0 x1 x2 x3 a b := by
  unfold out0_A_4
  rw [View.read_writes_eq_canon _ _ _ (cover0_A_4 c i arg1 harg1 arg2 harg2 arg3 harg3 arg4 harg4 arg5 harg5 arg6 harg6 arg7 harg7 arg8 harg8 arg9 harg9 hc0 x0 x1 x2 x3)]
  unfold kernelRun0_A
  dsimp only
  rw [View.canon_cons_unit_zero (S := S1280x2816) zero2, read_x_A, read_y_A,
    last_apply x0 x1 x2 x3 _ _ _ (pad_x_A c arg2 harg2 arg8 x1) (pad_y_A c arg4 harg4 arg9 x3)]
  unfold kernelRun0_A.sl.v11653 kernelRun0_A.sl.H4_1
  rw [View.readCov_unit_zero (S := S1280x2816) _ zero2]
  refine (congrArg (· + contrib x0 x1 x2 x3 a b) ?_).trans (zero_add _)
  exact Ideal.ofBits_zero_f32

/-- A later point: this block's contribution added to what the buffer held. -/
theorem out_B (hc0 : ¬cond0_0 i) (a : Fin 1280) (b : Fin 2816) :
    (out0_B_4 (F := Ideal) c i arg1 harg1 arg2 harg2 arg3 harg3 arg4 harg4 arg5 harg5 arg6 harg6 arg7 harg7 arg8 harg8 arg9 harg9 hc0 x0 x1 x2 x3 xo4 xs2 xs3 (ix2 a b) : EReal)
      = xo4 (ix2 a b) + contrib x0 x1 x2 x3 a b := by
  unfold out0_B_4
  rw [View.read_writes_eq_canon _ _ _ (cover0_B_4 c i arg1 harg1 arg2 harg2 arg3 harg3 arg4 harg4 arg5 harg5 arg6 harg6 arg7 harg7 arg8 harg8 arg9 harg9 hc0 x0 x1 x2 x3 xo4 xs2 xs3)]
  unfold kernelRun0_B
  dsimp only
  rw [View.canon_unit_zero (S := S1280x2816) zero2, read_x_B, read_y_B,
    last_apply x0 x1 x2 x3 _ _ _ (pad_x_B c arg2 harg2 arg8 harg8 x1 xs2) (pad_y_B c arg4 harg4 arg9 harg9 x3 xs3)]
  rw [View.readAt_eq_ld, harg5.read_unread, View.ld_unit_zero (S := S1280x2816) zero2]

end Cert.Body

end
-- ==== Proof.Fold.lean ====
/- The kernel's result as one sum over batch and token: the 128 grid points' contributions add up, and each point's block
   is a stretch of 1024 tokens of one batch entry. -/
module

public import proofs.«01_k».proof.Proof.Body
public import proofs.«01_k».proof.Proof.RefSum
public import Idealize.ShloMosaic.Lib.Pipeline.ValueKit.Point

@[expose] public section

noncomputable section

namespace Cert.Fold

open Idealize.ShloMosaic hiding ix2 ix3 eq_ix2
open Idealize.ShloMosaic.TcCoe Idealize.ShloMosaic.ValueIdx
open Cert.KernelIdeal Cert.KernelIdeal.Gen Cert.KernelIdeal.Value Cert.RefSum Cert.Body
open scoped BigOperators

variable (m : (ℓ : Loc nD τ sig) → Buf (Elt Ideal) ℓ)

/-- What grid point `t` adds to the result at an index. -/
def term (c : Dev nD) (t : Fin cfg0.N) (y : S1280x2816.Idx) : EReal :=
  contrib (iblk m c 0 t) (iblk m c 1 t) (iblk m c 2 t) (iblk m c 3 t) (y 0) (y 1)

/-- The output buffer after point `n`, at an index. -/
def acc (c : Dev nD) (n : ℕ) (hn : n < cfg0.N) (y : S1280x2816.Idx) : EReal := (outsAt0 m c n hn).1 y

-- The points' contents are used through `out_A` and `out_B` only.
seal out0_A_4 out0_B_4

/-- The first point leaves its own contribution. -/
theorem acc_first (c : Dev nD) (t : Fin cfg0.N) (h0 : t.val % 128 = 0) (a : Fin 1280) (b : Fin 2816) :
    acc m c t.val t.isLt (ix2 a b) = term m c t (ix2 a b) := by
  have e := congrFun (congrArg Prod.fst (outsAt0_A m c t h0)) (ix2 a b)
  have e1 := out_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) ((hcond0_0 t).mpr h0) a b
  exact e.trans e1

/-- A later point adds its contribution to what the point before it left. -/
theorem acc_later (c : Dev nD) (t : Fin cfg0.N) (h0 : ¬t.val % 128 = 0) (a : Fin 1280) (b : Fin 2816) :
    acc m c t.val t.isLt (ix2 a b) = acc m c (t.val - 1) (Nat.lt_of_le_of_lt (Nat.sub_le _ _) t.isLt) (ix2 a b) + term m c t (ix2 a b) := by
  have e := congrFun (congrArg Prod.fst (outsAt0_B m c t h0)) (ix2 a b)
  have e1 := out_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _)
      (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2 (fun h => h0 ((hcond0_0 t).mp h)) a b
  exact e.trans e1

-- The recursion over the points is used through `acc_first` and `acc_later` only.
seal outsAt0 stAt0

/-- The kernel's result at an index: the 128 points' contributions added. -/
theorem G4_sum (c : Dev nD) (a : Fin 1280) (b : Fin 2816) : (G4 m c (ix2 a b) : EReal) = ∑ t : Fin cfg0.N, term m c t (ix2 a b) := by
  have h127 : 127 < cfg0.N := lt_of_lt_of_eq (by decide) N_0.symm
  have e := Pipeline.eq_sum_fin_of_reset_step_last (fun n hn => acc m c n hn (ix2 a b)) 128 (0 : EReal) (fun t => term m c t (ix2 a b))
    (fun t h0 => (acc_first m c t h0 a b).trans (zero_add _).symm) (fun t h0 => acc_later m c t h0 a b) (le_of_eq N_0) ⟨127, h127⟩ N_0.symm
  rw [G4_last, ← outsAt0_sweep m c 127 h127]
  exact e.trans (zero_add _)

/-- The block of point `t` is block `t` of the tokens, of the first operand's codes. -/
theorem idx0 : ∀ t : Fin cfg0.N, win0_0.index t (0 : Fin 2) = t.val ∧ win0_0.index t (1 : Fin 2) = 0 :=
  (by decide : ∀ t : Fin grid0.N, win0_0.index t (0 : Fin 2) = t.val ∧ win0_0.index t (1 : Fin 2) = 0)
/-- The same for the first operand's scales. -/
theorem idx1 : ∀ t : Fin cfg0.N, win0_1.index t (0 : Fin 2) = t.val ∧ win0_1.index t (1 : Fin 2) = 0 :=
  (by decide : ∀ t : Fin grid0.N, win0_1.index t (0 : Fin 2) = t.val ∧ win0_1.index t (1 : Fin 2) = 0)
/-- The same for the second operand's codes. -/
theorem idx2 : ∀ t : Fin cfg0.N, win0_2.index t (0 : Fin 2) = t.val ∧ win0_2.index t (1 : Fin 2) = 0 :=
  (by decide : ∀ t : Fin grid0.N, win0_2.index t (0 : Fin 2) = t.val ∧ win0_2.index t (1 : Fin 2) = 0)
/-- The same for the second operand's scales. -/
theorem idx3 : ∀ t : Fin cfg0.N, win0_3.index t (0 : Fin 2) = t.val ∧ win0_3.index t (1 : Fin 2) = 0 :=
  (by decide : ∀ t : Fin grid0.N, win0_3.index t (0 : Fin 2) = t.val ∧ win0_3.index t (1 : Fin 2) = 0)

/-- Row `r` of point `t`'s block is row `t·n + r` of the operand, which the kernel's caller has flattened: token
    `(t·n + r) mod B` of batch entry `(t·n + r) / B`. Here for the first operand's codes. -/
theorem blk0 (c : Dev nD) (t : Fin cfg0.N) (r : Fin 1024) (i : Fin 1280) (b : Fin 4) (tt : Fin 32768)
    (h : t.val * 1024 + r.val = b.val * 32768 + tt.val) :
    (iblk m c 0 t : Vec Ideal S1024x1280 .i8) (ix2 r i) = (m ((c : Thread nD τ).loc main_arg0) : Vec Ideal S4x32768x1280 .i8) (ix3 b tt i) := by
  blk_simp [iblk, idx0 t]
  entry_read
  refine shapeCast_apply _ _ _ (ix3 b tt i) ?_
  refine (Shape.rowMajor_val_three (ix3 b tt i)).trans (Eq.trans ?_ (Shape.rowMajor_val_two (d := ![131072, 1280]) _).symm)
  show (b.val * 32768 + tt.val) * 1280 + i.val = (win0_0.index t (0 : Fin 2) * 1024 + 1 * r.val) * 1280 + (win0_0.index t (1 : Fin 2) * 1280 + 1 * i.val)
  rw [(idx0 t).1, (idx0 t).2]
  omega

/-- The same for the first operand's scales. -/
theorem blk1 (c : Dev nD) (t : Fin cfg0.N) (r : Fin 32) (i : Fin 40) (b : Fin 4) (tt : Fin 1024)
    (h : t.val * 32 + r.val = b.val * 1024 + tt.val) :
    (iblk m c 1 t : Vec Ideal S32x40 .f32) (ix2 r i) = (m ((c : Thread nD τ).loc main_arg1) : Vec Ideal S4x1024x40 .f32) (ix3 b tt i) := by
  blk_simp [iblk, idx1 t]
  entry_read
  refine shapeCast_apply _ _ _ (ix3 b tt i) ?_
  refine (Shape.rowMajor_val_three (ix3 b tt i)).trans (Eq.trans ?_ (Shape.rowMajor_val_two (d := ![4096, 40]) _).symm)
  show (b.val * 1024 + tt.val) * 40 + i.val = (win0_1.index t (0 : Fin 2) * 32 + 1 * r.val) * 40 + (win0_1.index t (1 : Fin 2) * 40 + 1 * i.val)
  rw [(idx1 t).1, (idx1 t).2]
  omega

/-- The same for the second operand's codes. -/
theorem blk2 (c : Dev nD) (t : Fin cfg0.N) (r : Fin 1024) (i : Fin 2816) (b : Fin 4) (tt : Fin 32768)
    (h : t.val * 1024 + r.val = b.val * 32768 + tt.val) :
    (iblk m c 2 t : Vec Ideal S1024x2816 .i8) (ix2 r i) = (m ((c : Thread nD τ).loc main_arg2) : Vec Ideal S4x32768x2816 .i8) (ix3 b tt i) := by
  blk_simp [iblk, idx2 t]
  entry_read
  refine shapeCast_apply _ _ _ (ix3 b tt i) ?_
  refine (Shape.rowMajor_val_three (ix3 b tt i)).trans (Eq.trans ?_ (Shape.rowMajor_val_two (d := ![131072, 2816]) _).symm)
  show (b.val * 32768 + tt.val) * 2816 + i.val = (win0_2.index t (0 : Fin 2) * 1024 + 1 * r.val) * 2816 + (win0_2.index t (1 : Fin 2) * 2816 + 1 * i.val)
  rw [(idx2 t).1, (idx2 t).2]
  omega

/-- The same for the second operand's scales. -/
theorem blk3 (c : Dev nD) (t : Fin cfg0.N) (r : Fin 32) (i : Fin 88) (b : Fin 4) (tt : Fin 1024)
    (h : t.val * 32 + r.val = b.val * 1024 + tt.val) :
    (iblk m c 3 t : Vec Ideal S32x88 .f32) (ix2 r i) = (m ((c : Thread nD τ).loc main_arg3) : Vec Ideal S4x1024x88 .f32) (ix3 b tt i) := by
  blk_simp [iblk, idx3 t]
  entry_read
  refine shapeCast_apply _ _ _ (ix3 b tt i) ?_
  refine (Shape.rowMajor_val_three (ix3 b tt i)).trans (Eq.trans ?_ (Shape.rowMajor_val_two (d := ![4096, 88]) _).symm)
  show (b.val * 1024 + tt.val) * 88 + i.val = (win0_3.index t (0 : Fin 2) * 32 + 1 * r.val) * 88 + (win0_3.index t (1 : Fin 2) * 88 + 1 * i.val)
  rw [(idx3 t).1, (idx3 t).2]
  omega

/-- The kernel's result at (i, j), from its four arguments: the reference's double sum over batch and token. -/
theorem G4_apply (c : Dev nD) (i : Fin 1280) (j : Fin 2816) :
    (G4 m c (ix2 i j) : EReal) = ∑ b : Fin 4, ∑ t : Fin 32768,
      num ((m ((c : Thread nD τ).loc main_arg0) : Vec Ideal S4x32768x1280 .i8) (ix3 b t i))
        * (m ((c : Thread nD τ).loc main_arg1) : FVec Ideal S4x1024x40 .f32) (ix3 b ⟨t.val / 32, by omega⟩ ⟨i.val / 32, by omega⟩)
      * (num ((m ((c : Thread nD τ).loc main_arg2) : Vec Ideal S4x32768x2816 .i8) (ix3 b t j))
        * (m ((c : Thread nD τ).loc main_arg3) : FVec Ideal S4x1024x88 .f32) (ix3 b ⟨t.val / 32, by omega⟩ ⟨j.val / 32, by omega⟩)) := by
  rw [G4_sum]
  unfold term contrib
  refine Fin.sum_points_lanes_congr 32 (fun t k ha hl => ?_) N_0
  have ht : t.val / 32 * 32 + t.val % 32 = t.val := Nat.div_add_mod' _ _
  have hk := k.isLt
  unfold entry
  exact congrArg₂ (· * ·)
    (congrArg₂ (fun a b => num a * b) (blk0 m c t k i _ _ (by dsimp only; omega)) (blk1 m c t _ _ _ _ (by dsimp only; omega)))
    (congrArg₂ (fun a b => num a * b) (blk2 m c t k j _ _ (by dsimp only; omega)) (blk3 m c t _ _ _ _ (by dsimp only; omega)))

end Cert.Fold

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.RefSum
public import proofs.«01_k».proof.Proof.Fold
public import Idealize.ShloMosaic.Adequacy
public import Idealize.ShloMosaic.Init

@[expose] public section

noncomputable section

namespace Cert.Proof

open Idealize.ShloMosaic Idealize.SL.Sem Cert.Kernel

/-- From memories that agree on the four arguments, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.RefValue.result m' c : FVec Ideal Cert.KernelIdeal.S1280x2816 .f32) = Cert.KernelIdeal.Value.G4 m c := by
  funext y
  obtain ⟨i, j, rfl⟩ : ∃ (i : Fin 1280) (j : Fin 2816), y = ValueIdx.ix2 i j := ⟨y 0, y 1, ValueIdx.eq_ix2 y⟩
  have e := Cert.ReferenceIdeal.RefValue.result_apply m' c i j
  rw [h0, h1, h2, h3] at e
  exact e.trans (Cert.Fold.G4_apply m c i j).symm

/-- The kernel's and the reference's runs end with equal results and their arguments unchanged. -/
theorem algebraic : Cert.algebraic_KernelIdeal_ReferenceIdeal (hKernelIdeal := Cert.KernelIdeal.Gen.facts) (hReferenceIdeal := Cert.ReferenceIdeal.Gen.facts) :=
  fun m ρ m' ρ' _ hag => ⟨fun c => Cert.KernelIdeal.Value.G4 m c, Cert.KernelIdeal.Value.run m ρ,
    (θ_run _ _ _).mono (fun _ h c => ⟨(h c).1.trans (results_eq m m' c (hag c).1 (hag c).2.1 (hag c).2.2.1 (hag c).2.2.2), (h c).2⟩)
      (Cert.ReferenceIdeal.RefValue.run m' ρ')⟩

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic⟩

end Cert.Proof

end
